-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x384x96 : Shape := ⟨4, ![2, 384, 384, 96]⟩
abbrev S2x384x96x384 : Shape := ⟨4, ![2, 384, 96, 384]⟩
abbrev S2x384x12x8x384 : Shape := ⟨5, ![2, 384, 12, 8, 384]⟩
abbrev S8x12x384x8x384 : Shape := ⟨5, ![8, 12, 384, 8, 384]⟩
abbrev S1x384x1x8x384 : Shape := ⟨5, ![1, 384, 1, 8, 384]⟩
abbrev S1x1x384x8x384 : Shape := ⟨5, ![1, 1, 384, 8, 384]⟩
abbrev S384x1x1 : Shape := ⟨3, ![384, 1, 1]⟩
abbrev S384x8x384 : Shape := ⟨3, ![384, 8, 384]⟩
abbrev S384x8x128 : Shape := ⟨3, ![384, 8, 128]⟩
abbrev S384x8x128x1 : Shape := ⟨4, ![384, 8, 128, 1]⟩
abbrev S48x8x8x384 : Shape := ⟨4, ![48, 8, 8, 384]⟩
abbrev S48x1x8x384 : Shape := ⟨4, ![48, 1, 8, 384]⟩
abbrev S1x8x8x384 : Shape := ⟨4, ![1, 8, 8, 384]⟩
abbrev S8x384x384x12x8 : Shape := ⟨5, ![8, 384, 384, 12, 8]⟩
abbrev S8x147456x96 : Shape := ⟨3, ![8, 147456, 96]⟩

abbrev nBuf : Space → Nat
  | .hbm => 8
  | .vmem => 8
  | .smem => 0
  | _ => 0

abbrev bufTy : (tb : Table) → Fin (tcTables nBuf tb) → BufTy
  | .hbm, ⟨0, _⟩ => ⟨S2x384x384x96, .f32⟩
  | .hbm, ⟨1, _⟩ => ⟨S2x384x96x384, .f32⟩
  | .hbm, ⟨2, _⟩ => ⟨S2x384x12x8x384, .f32⟩
  | .hbm, ⟨3, _⟩ => ⟨S2x384x12x8x384, .f32⟩
  | .hbm, ⟨4, _⟩ => ⟨S8x12x384x8x384, .f32⟩
  | .hbm, ⟨5, _⟩ => ⟨S8x12x384x8x384, .f32⟩
  | .hbm, ⟨6, _⟩ => ⟨S8x384x384x12x8, .f32⟩
  | .hbm, ⟨7, _⟩ => ⟨S8x147456x96, .f32⟩
  | .local _ .vmem, ⟨0, _⟩ => ⟨S1x384x1x8x384, .f32⟩
  | .local _ .vmem, ⟨1, _⟩ => ⟨S1x384x1x8x384, .f32⟩
  | .local _ .vmem, ⟨2, _⟩ => ⟨S1x1x384x8x384, .f32⟩
  | .local _ .vmem, ⟨3, _⟩ => ⟨S1x1x384x8x384, .f32⟩
  | .local _ .vmem, ⟨4, _⟩ => ⟨S1x384x1x8x384, .f32⟩
  | .local _ .vmem, ⟨5, _⟩ => ⟨S1x384x1x8x384, .f32⟩
  | .local _ .vmem, ⟨6, _⟩ => ⟨S1x1x384x8x384, .f32⟩
  | .local _ .vmem, ⟨7, _⟩ => ⟨S1x1x384x8x384, .f32⟩
  | _, _ => ⟨S2x384x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨3, ![2, 12, 2], ![false, false, false]⟩

def k0_cond1 (i : grid0.Coords) : BitVec 1 :=
  let arg2 : BitVec 32 := BitVec.ofNat 32 (i 2).val
  let c0_i32_8 : BitVec 32 := 0#32
  let v21 : BitVec 1 := Scalar.cmpi .eq arg2 c0_i32_8
  let v22 : BitVec 32 := Scalar.extui v21
  let c0_i32_9 : BitVec 32 := 0#32
  let v23 : BitVec 1 := Scalar.cmpi .ne v22 c0_i32_9
  v23

def k0_cond2 (i : grid0.Coords) : BitVec 1 :=
  let arg2 : BitVec 32 := BitVec.ofNat 32 (i 2).val
  let c1_i32_10 : BitVec 32 := 1#32
  let v24 : BitVec 1 := Scalar.cmpi .eq arg2 c1_i32_10
  let v25 : BitVec 32 := Scalar.extui v24
  let c0_i32_11 : BitVec 32 := 0#32
  let v26 : BitVec 1 := Scalar.cmpi .ne v25 c0_i32_11
  v26

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, arg1.toNat, c0_i32.toNat, c0_i32_0.toNat, c0_i32_1.toNat]

abbrev stage0_0 : Fin 2 → Memref sig .tc .vmem S1x384x1x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x384x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev grid1 : Pipeline.Grid := ⟨3, ![2, 12, 2], ![false, false, false]⟩

def k1_cond1 (i : grid1.Coords) : BitVec 1 :=
  let arg2 : BitVec 32 := BitVec.ofNat 32 (i 2).val
  let c0_i32_8 : BitVec 32 := 0#32
  let v21 : BitVec 1 := Scalar.cmpi .eq arg2 c0_i32_8
  let v22 : BitVec 32 := Scalar.extui v21
  let c0_i32_9 : BitVec 32 := 0#32
  let v23 : BitVec 1 := Scalar.cmpi .ne v22 c0_i32_9
  v23

def k1_cond2 (i : grid1.Coords) : BitVec 1 :=
  let arg2 : BitVec 32 := BitVec.ofNat 32 (i 2).val
  let c1_i32_10 : BitVec 32 := 1#32
  let v24 : BitVec 1 := Scalar.cmpi .eq arg2 c1_i32_10
  let v25 : BitVec 32 := Scalar.extui v24
  let c0_i32_11 : BitVec 32 := 0#32
  let v26 : BitVec 1 := Scalar.cmpi .ne v25 c0_i32_11
  v26

def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c4_i32 : BitVec 32 := 4#32
  let v1 : BitVec 32 := Scalar.addi c4_i32 v0
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![v2.toNat, arg1.toNat, c0_i32.toNat, c0_i32_0.toNat, c0_i32_1.toNat]

abbrev stage1_0 : Fin 2 → Memref sig .tc .vmem S1x384x1x8x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x384x8x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]
-- ==== ReferenceIdeal.lean ====
abbrev S2x384x384x96 : Shape := ⟨4, ![2, 384, 384, 96]⟩
abbrev S2x147456x96 : Shape := ⟨3, ![2, 147456, 96]⟩
abbrev S147456 : Shape := ⟨1, ![147456]⟩
abbrev S_ : Shape := ⟨0, ![]⟩
abbrev S147456x1 : Shape := ⟨2, ![147456, 1]⟩
abbrev S1 : Shape := ⟨1, ![1]⟩
abbrev S1x1 : Shape := ⟨2, ![1, 1]⟩
abbrev S8x147456x96 : Shape := ⟨3, ![8, 147456, 96]⟩

abbrev nBuf : Space → Nat
  | .hbm => 289
  | .vmem => 0
  | .smem => 0
  | _ => 0

abbrev hbmTy0_0 (i : Nat) : BufTy := match i % 128 with
  | 0 => ⟨S2x384x384x96, .f32⟩
  | 1 => ⟨S2x147456x96, .f32⟩
  | 2 => ⟨S147456, .i32⟩
  | 3 => ⟨S_, .i32⟩
  | 4 => ⟨S_, .i32⟩
  | 5 => ⟨S147456, .i32⟩
  | 6 => ⟨S147456, .i32⟩
  | 7 => ⟨S147456, .i32⟩
  | 8 => ⟨S_, .i32⟩
  | 9 => ⟨S147456, .i32⟩
  | 10 => ⟨S147456, .i1⟩
  | 11 => ⟨S147456, .i32⟩
  | 12 => ⟨S147456, .i32⟩
  | 13 => ⟨S_, .i32⟩
  | 14 => ⟨S147456, .i32⟩
  | 15 => ⟨S147456, .i1⟩
  | 16 => ⟨S147456, .i1⟩
  | 17 => ⟨S_, .i32⟩
  | 18 => ⟨S147456, .i32⟩
  | 19 => ⟨S147456, .i32⟩
  | 20 => ⟨S147456, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S147456, .i32⟩
  | 28 => ⟨S147456, .i32⟩
  | 29 => ⟨S_, .i32⟩
  | 30 => ⟨S147456, .i32⟩
  | 31 => ⟨S147456, .i1⟩
  | 32 => ⟨S_, .i32⟩
  | 33 => ⟨S147456, .i32⟩
  | 34 => ⟨S147456, .i1⟩
  | 35 => ⟨S_, .i32⟩
  | 36 => ⟨S_, .i1⟩
  | 37 => ⟨S147456, .i1⟩
  | 38 => ⟨S147456, .i1⟩
  | 39 => ⟨S147456, .i1⟩
  | 40 => ⟨S147456, .i32⟩
  | 41 => ⟨S147456, .i32⟩
  | 42 => ⟨S147456, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S147456, .i32⟩
  | 50 => ⟨S147456, .i32⟩
  | 51 => ⟨S_, .i32⟩
  | 52 => ⟨S147456, .i32⟩
  | 53 => ⟨S147456, .i1⟩
  | 54 => ⟨S_, .i32⟩
  | 55 => ⟨S147456, .i32⟩
  | 56 => ⟨S147456, .i1⟩
  | 57 => ⟨S_, .i32⟩
  | 58 => ⟨S_, .i1⟩
  | 59 => ⟨S147456, .i1⟩
  | 60 => ⟨S147456, .i1⟩
  | 61 => ⟨S147456, .i1⟩
  | 62 => ⟨S147456, .i32⟩
  | 63 => ⟨S147456, .i32⟩
  | 64 => ⟨S147456, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S147456, .i32⟩
  | 72 => ⟨S147456, .i32⟩
  | 73 => ⟨S_, .i32⟩
  | 74 => ⟨S147456, .i32⟩
  | 75 => ⟨S147456, .i1⟩
  | 76 => ⟨S_, .i32⟩
  | 77 => ⟨S147456, .i32⟩
  | 78 => ⟨S147456, .i1⟩
  | 79 => ⟨S_, .i32⟩
  | 80 => ⟨S_, .i1⟩
  | 81 => ⟨S147456, .i1⟩
  | 82 => ⟨S147456, .i1⟩
  | 83 => ⟨S147456, .i1⟩
  | 84 => ⟨S147456, .i32⟩
  | 85 => ⟨S147456, .i32⟩
  | 86 => ⟨S147456, .i32⟩
  | 87 => ⟨S_, .i32⟩
  | 88 => ⟨S147456, .i32⟩
  | 89 => ⟨S147456, .i1⟩
  | 90 => ⟨S_, .i32⟩
  | 91 => ⟨S147456, .i32⟩
  | 92 => ⟨S147456, .i32⟩
  | 93 => ⟨S147456, .i32⟩
  | 94 => ⟨S_, .i32⟩
  | 95 => ⟨S147456, .i32⟩
  | 96 => ⟨S147456, .i32⟩
  | 97 => ⟨S147456, .i32⟩
  | 98 => ⟨S147456, .i32⟩
  | 99 => ⟨S_, .i32⟩
  | 100 => ⟨S_, .i32⟩
  | 101 => ⟨S147456, .i32⟩
  | 102 => ⟨S147456, .i32⟩
  | 103 => ⟨S147456, .i32⟩
  | 104 => ⟨S_, .i32⟩
  | 105 => ⟨S147456, .i32⟩
  | 106 => ⟨S147456, .i1⟩
  | 107 => ⟨S147456, .i32⟩
  | 108 => ⟨S147456, .i32⟩
  | 109 => ⟨S_, .i32⟩
  | 110 => ⟨S147456, .i32⟩
  | 111 => ⟨S147456, .i1⟩
  | 112 => ⟨S147456, .i1⟩
  | 113 => ⟨S_, .i32⟩
  | 114 => ⟨S147456, .i32⟩
  | 115 => ⟨S147456, .i32⟩
  | 116 => ⟨S147456, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S147456, .i32⟩
  | 124 => ⟨S147456, .i32⟩
  | 125 => ⟨S_, .i32⟩
  | 126 => ⟨S147456, .i32⟩
  | 127 => ⟨S147456, .i1⟩
  | _ => ⟨S2x384x384x96, .f32⟩

abbrev hbmTy0_1 (i : Nat) : BufTy := match i % 128 with
  | 0 => ⟨S_, .i32⟩
  | 1 => ⟨S147456, .i32⟩
  | 2 => ⟨S147456, .i1⟩
  | 3 => ⟨S_, .i32⟩
  | 4 => ⟨S_, .i1⟩
  | 5 => ⟨S147456, .i1⟩
  | 6 => ⟨S147456, .i1⟩
  | 7 => ⟨S147456, .i1⟩
  | 8 => ⟨S147456, .i32⟩
  | 9 => ⟨S147456, .i32⟩
  | 10 => ⟨S147456, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S147456, .i32⟩
  | 18 => ⟨S147456, .i32⟩
  | 19 => ⟨S_, .i32⟩
  | 20 => ⟨S147456, .i32⟩
  | 21 => ⟨S147456, .i1⟩
  | 22 => ⟨S_, .i32⟩
  | 23 => ⟨S147456, .i32⟩
  | 24 => ⟨S147456, .i1⟩
  | 25 => ⟨S_, .i32⟩
  | 26 => ⟨S_, .i1⟩
  | 27 => ⟨S147456, .i1⟩
  | 28 => ⟨S147456, .i1⟩
  | 29 => ⟨S147456, .i1⟩
  | 30 => ⟨S147456, .i32⟩
  | 31 => ⟨S147456, .i32⟩
  | 32 => ⟨S147456, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S147456, .i32⟩
  | 40 => ⟨S147456, .i32⟩
  | 41 => ⟨S_, .i32⟩
  | 42 => ⟨S147456, .i32⟩
  | 43 => ⟨S147456, .i1⟩
  | 44 => ⟨S_, .i32⟩
  | 45 => ⟨S147456, .i32⟩
  | 46 => ⟨S147456, .i1⟩
  | 47 => ⟨S_, .i32⟩
  | 48 => ⟨S_, .i1⟩
  | 49 => ⟨S147456, .i1⟩
  | 50 => ⟨S147456, .i1⟩
  | 51 => ⟨S147456, .i1⟩
  | 52 => ⟨S147456, .i32⟩
  | 53 => ⟨S147456, .i32⟩
  | 54 => ⟨S147456, .i32⟩
  | 55 => ⟨S_, .i32⟩
  | 56 => ⟨S147456, .i32⟩
  | 57 => ⟨S147456, .i1⟩
  | 58 => ⟨S_, .i32⟩
  | 59 => ⟨S147456, .i32⟩
  | 60 => ⟨S147456, .i32⟩
  | 61 => ⟨S147456, .i32⟩
  | 62 => ⟨S_, .i32⟩
  | 63 => ⟨S147456, .i32⟩
  | 64 => ⟨S147456, .i32⟩
  | 65 => ⟨S147456, .i32⟩
  | 66 => ⟨S147456, .i32⟩
  | 67 => ⟨S147456, .i32⟩
  | 68 => ⟨S_, .i32⟩
  | 69 => ⟨S147456, .i32⟩
  | 70 => ⟨S147456, .i1⟩
  | 71 => ⟨S_, .i32⟩
  | 72 => ⟨S147456, .i32⟩
  | 73 => ⟨S147456, .i32⟩
  | 74 => ⟨S147456, .i32⟩
  | 75 => ⟨S147456x1, .i32⟩
  | 76 => ⟨S1, .i32⟩
  | 77 => ⟨S_, .i32⟩
  | 78 => ⟨S147456x1, .i32⟩
  | 79 => ⟨S147456x1, .i1⟩
  | 80 => ⟨S1x1, .i32⟩
  | 81 => ⟨S147456x1, .i32⟩
  | 82 => ⟨S147456x1, .i1⟩
  | 83 => ⟨S147456x1, .i1⟩
  | 84 => ⟨S_, .i1⟩
  | 85 => ⟨S147456, .i1⟩
  | 86 => ⟨S2x147456x96, .f32⟩
  | 87 => ⟨S2x147456x96, .i1⟩
  | 88 => ⟨S_, .f32⟩
  | 89 => ⟨S2x147456x96, .f32⟩
  | 90 => ⟨S2x147456x96, .f32⟩
  | 91 => ⟨S_, .i32⟩
  | 92 => ⟨S147456, .i32⟩
  | 93 => ⟨S147456, .i1⟩
  | 94 => ⟨S_, .i32⟩
  | 95 => ⟨S147456, .i32⟩
  | 96 => ⟨S147456, .i32⟩
  | 97 => ⟨S147456, .i32⟩
  | 98 => ⟨S147456x1, .i32⟩
  | 99 => ⟨S1, .i32⟩
  | 100 => ⟨S_, .i32⟩
  | 101 => ⟨S147456x1, .i32⟩
  | 102 => ⟨S147456x1, .i1⟩
  | 103 => ⟨S1x1, .i32⟩
  | 104 => ⟨S147456x1, .i32⟩
  | 105 => ⟨S147456x1, .i1⟩
  | 106 => ⟨S147456x1, .i1⟩
  | 107 => ⟨S_, .i1⟩
  | 108 => ⟨S147456, .i1⟩
  | 109 => ⟨S2x147456x96, .f32⟩
  | 110 => ⟨S2x147456x96, .i1⟩
  | 111 => ⟨S_, .f32⟩
  | 112 => ⟨S2x147456x96, .f32⟩
  | 113 => ⟨S2x147456x96, .f32⟩
  | 114 => ⟨S_, .i32⟩
  | 115 => ⟨S147456, .i32⟩
  | 116 => ⟨S147456, .i1⟩
  | 117 => ⟨S_, .i32⟩
  | 118 => ⟨S147456, .i32⟩
  | 119 => ⟨S147456, .i32⟩
  | 120 => ⟨S147456, .i32⟩
  | 121 => ⟨S147456x1, .i32⟩
  | 122 => ⟨S1, .i32⟩
  | 123 => ⟨S_, .i32⟩
  | 124 => ⟨S147456x1, .i32⟩
  | 125 => ⟨S147456x1, .i1⟩
  | 126 => ⟨S1x1, .i32⟩
  | 127 => ⟨S147456x1, .i32⟩
  | _ => ⟨S2x384x384x96, .f32⟩

abbrev hbmTy0_2 (i : Nat) : BufTy := match i % 128 with
  | 0 => ⟨S147456x1, .i1⟩
  | 1 => ⟨S147456x1, .i1⟩
  | 2 => ⟨S_, .i1⟩
  | 3 => ⟨S147456, .i1⟩
  | 4 => ⟨S2x147456x96, .f32⟩
  | 5 => ⟨S2x147456x96, .i1⟩
  | 6 => ⟨S_, .f32⟩
  | 7 => ⟨S2x147456x96, .f32⟩
  | 8 => ⟨S2x147456x96, .f32⟩
  | 9 => ⟨S_, .i32⟩
  | 10 => ⟨S147456, .i32⟩
  | 11 => ⟨S147456, .i1⟩
  | 12 => ⟨S_, .i32⟩
  | 13 => ⟨S147456, .i32⟩
  | 14 => ⟨S147456, .i32⟩
  | 15 => ⟨S147456, .i32⟩
  | 16 => ⟨S147456x1, .i32⟩
  | 17 => ⟨S1, .i32⟩
  | 18 => ⟨S_, .i32⟩
  | 19 => ⟨S147456x1, .i32⟩
  | 20 => ⟨S147456x1, .i1⟩
  | 21 => ⟨S1x1, .i32⟩
  | 22 => ⟨S147456x1, .i32⟩
  | 23 => ⟨S147456x1, .i1⟩
  | 24 => ⟨S147456x1, .i1⟩
  | 25 => ⟨S_, .i1⟩
  | 26 => ⟨S147456, .i1⟩
  | 27 => ⟨S2x147456x96, .f32⟩
  | 28 => ⟨S2x147456x96, .i1⟩
  | 29 => ⟨S_, .f32⟩
  | 30 => ⟨S2x147456x96, .f32⟩
  | 31 => ⟨S2x147456x96, .f32⟩
  | 32 => ⟨S8x147456x96, .f32⟩
  | _ => ⟨S2x384x384x96, .f32⟩

abbrev hbmTy (i : Nat) : BufTy := match i / 128 with
  | 0 => hbmTy0_0 i
  | 1 => hbmTy0_1 i
  | 2 => hbmTy0_2 i
  | _ => ⟨S2x384x384x96, .f32⟩

abbrev bufTy : (tb : Table) → Fin (tcTables nBuf tb) → BufTy
  | .hbm, ⟨i, _⟩ => hbmTy i
  | _, _ => ⟨S2x384x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v3 : Ref sig .tc := ⟨.hbm, 42, rfl⟩
abbrev main_c_1 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v4 : Ref sig .tc := ⟨.hbm, 64, rfl⟩
abbrev main_c_2 : Ref sig .tc := ⟨.hbm, 65, rfl⟩
abbrev main_call3_v0 : Ref sig .tc := ⟨.hbm, 66, rfl⟩
abbrev main_call3_c : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_c_1 : Ref sig .tc := ⟨.hbm, 73, rfl⟩
abbrev main_call3_v5 : Ref sig .tc := ⟨.hbm, 74, rfl⟩
abbrev main_call3_v6 : Ref sig .tc := ⟨.hbm, 75, rfl⟩
abbrev main_call3_c_2 : Ref sig .tc := ⟨.hbm, 76, rfl⟩
abbrev main_call3_v7 : Ref sig .tc := ⟨.hbm, 77, rfl⟩
abbrev main_call3_v8 : Ref sig .tc := ⟨.hbm, 78, rfl⟩
abbrev main_call3_c_3 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_v5 : Ref sig .tc := ⟨.hbm, 86, rfl⟩
abbrev main_c_3 : Ref sig .tc := ⟨.hbm, 87, rfl⟩
abbrev main_v6 : Ref sig .tc := ⟨.hbm, 88, rfl⟩
abbrev main_v7 : Ref sig .tc := ⟨.hbm, 89, rfl⟩
abbrev main_c_4 : Ref sig .tc := ⟨.hbm, 90, rfl⟩
abbrev main_v8 : Ref sig .tc := ⟨.hbm, 91, rfl⟩
abbrev main_v9 : Ref sig .tc := ⟨.hbm, 92, rfl⟩
abbrev main_v10 : Ref sig .tc := ⟨.hbm, 93, rfl⟩
abbrev main_c_5 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_c_6 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_c : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_call5_c_0 : Ref sig .tc := ⟨.hbm, 113, rfl⟩
abbrev main_call5_v12 : Ref sig .tc := ⟨.hbm, 114, rfl⟩
abbrev main_call5_v13 : Ref sig .tc := ⟨.hbm, 115, rfl⟩
abbrev main_v15 : Ref sig .tc := ⟨.hbm, 116, rfl⟩
abbrev main_c_7 : Ref sig .tc := ⟨.hbm, 117, rfl⟩
abbrev main_call6_v0 : Ref sig .tc := ⟨.hbm, 118, rfl⟩
abbrev main_call6_c : Ref sig .tc := ⟨.hbm, 119, rfl⟩
abbrev main_call6_v1 : Ref sig .tc := ⟨.hbm, 120, rfl⟩
abbrev main_call6_c_0 : Ref sig .tc := ⟨.hbm, 121, rfl⟩
abbrev main_call6_v2 : Ref sig .tc := ⟨.hbm, 122, rfl⟩
abbrev main_call6_v3 : Ref sig .tc := ⟨.hbm, 123, rfl⟩
abbrev main_call6_v4 : Ref sig .tc := ⟨.hbm, 124, rfl⟩
abbrev main_call6_c_1 : Ref sig .tc := ⟨.hbm, 125, rfl⟩
abbrev main_call6_v5 : Ref sig .tc := ⟨.hbm, 126, rfl⟩
abbrev main_call6_v6 : Ref sig .tc := ⟨.hbm, 127, rfl⟩
abbrev main_call6_c_2 : Ref sig .tc := ⟨.hbm, 128, rfl⟩
abbrev main_call6_v7 : Ref sig .tc := ⟨.hbm, 129, rfl⟩
abbrev main_call6_v8 : Ref sig .tc := ⟨.hbm, 130, rfl⟩
abbrev main_call6_c_3 : Ref sig .tc := ⟨.hbm, 131, rfl⟩
abbrev main_call6_v9 : Ref sig .tc := ⟨.hbm, 132, rfl⟩
abbrev main_call6_v10 : Ref sig .tc := ⟨.hbm, 133, rfl⟩
abbrev main_call6_v11 : Ref sig .tc := ⟨.hbm, 134, rfl⟩
abbrev main_call6_v12 : Ref sig .tc := ⟨.hbm, 135, rfl⟩
abbrev main_call6_v13 : Ref sig .tc := ⟨.hbm, 136, rfl⟩
abbrev main_call6_v14 : Ref sig .tc := ⟨.hbm, 137, rfl⟩
abbrev main_v16 : Ref sig .tc := ⟨.hbm, 138, rfl⟩
abbrev main_c_8 : Ref sig .tc := ⟨.hbm, 139, rfl⟩
abbrev main_call7_v0 : Ref sig .tc := ⟨.hbm, 140, rfl⟩
abbrev main_call7_c : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_c_1 : Ref sig .tc := ⟨.hbm, 147, rfl⟩
abbrev main_call7_v5 : Ref sig .tc := ⟨.hbm, 148, rfl⟩
abbrev main_call7_v6 : Ref sig .tc := ⟨.hbm, 149, rfl⟩
abbrev main_call7_c_2 : Ref sig .tc := ⟨.hbm, 150, rfl⟩
abbrev main_call7_v7 : Ref sig .tc := ⟨.hbm, 151, rfl⟩
abbrev main_call7_v8 : Ref sig .tc := ⟨.hbm, 152, rfl⟩
abbrev main_call7_c_3 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_v12 : Ref sig .tc := ⟨.hbm, 157, rfl⟩
abbrev main_call7_v13 : Ref sig .tc := ⟨.hbm, 158, rfl⟩
abbrev main_call7_v14 : Ref sig .tc := ⟨.hbm, 159, rfl⟩
abbrev main_v17 : Ref sig .tc := ⟨.hbm, 160, rfl⟩
abbrev main_c_9 : Ref sig .tc := ⟨.hbm, 161, rfl⟩
abbrev main_call8_v0 : Ref sig .tc := ⟨.hbm, 162, rfl⟩
abbrev main_call8_c : Ref sig .tc := ⟨.hbm, 163, rfl⟩
abbrev main_call8_v1 : Ref sig .tc := ⟨.hbm, 164, rfl⟩
abbrev main_call8_c_0 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_call8_c_1 : Ref sig .tc := ⟨.hbm, 169, rfl⟩
abbrev main_call8_v5 : Ref sig .tc := ⟨.hbm, 170, rfl⟩
abbrev main_call8_v6 : Ref sig .tc := ⟨.hbm, 171, rfl⟩
abbrev main_call8_c_2 : Ref sig .tc := ⟨.hbm, 172, rfl⟩
abbrev main_call8_v7 : Ref sig .tc := ⟨.hbm, 173, rfl⟩
abbrev main_call8_v8 : Ref sig .tc := ⟨.hbm, 174, rfl⟩
abbrev main_call8_c_3 : Ref sig .tc := ⟨.hbm, 175, rfl⟩
abbrev main_call8_v9 : Ref sig .tc := ⟨.hbm, 176, rfl⟩
abbrev main_call8_v10 : Ref sig .tc := ⟨.hbm, 177, rfl⟩
abbrev main_call8_v11 : Ref sig .tc := ⟨.hbm, 178, rfl⟩
abbrev main_call8_v12 : Ref sig .tc := ⟨.hbm, 179, rfl⟩
abbrev main_call8_v13 : Ref sig .tc := ⟨.hbm, 180, rfl⟩
abbrev main_call8_v14 : Ref sig .tc := ⟨.hbm, 181, rfl⟩
abbrev main_v18 : Ref sig .tc := ⟨.hbm, 182, rfl⟩
abbrev main_c_10 : Ref sig .tc := ⟨.hbm, 183, rfl⟩
abbrev main_v19 : Ref sig .tc := ⟨.hbm, 184, rfl⟩
abbrev main_v20 : Ref sig .tc := ⟨.hbm, 185, rfl⟩
abbrev main_c_11 : Ref sig .tc := ⟨.hbm, 186, rfl⟩
abbrev main_v21 : Ref sig .tc := ⟨.hbm, 187, rfl⟩
abbrev main_v22 : Ref sig .tc := ⟨.hbm, 188, rfl⟩
abbrev main_v23 : Ref sig .tc := ⟨.hbm, 189, rfl⟩
abbrev main_c_12 : Ref sig .tc := ⟨.hbm, 190, rfl⟩
abbrev main_v24 : Ref sig .tc := ⟨.hbm, 191, rfl⟩
abbrev main_v25 : Ref sig .tc := ⟨.hbm, 192, rfl⟩
abbrev main_v26 : Ref sig .tc := ⟨.hbm, 193, rfl⟩
abbrev main_v27 : Ref sig .tc := ⟨.hbm, 194, rfl⟩
abbrev main_v28 : Ref sig .tc := ⟨.hbm, 195, rfl⟩
abbrev main_call10_c : Ref sig .tc := ⟨.hbm, 196, rfl⟩
abbrev main_call10_v0 : Ref sig .tc := ⟨.hbm, 197, rfl⟩
abbrev main_call10_v1 : Ref sig .tc := ⟨.hbm, 198, rfl⟩
abbrev main_call10_c_0 : Ref sig .tc := ⟨.hbm, 199, rfl⟩
abbrev main_call10_v2 : Ref sig .tc := ⟨.hbm, 200, rfl⟩
abbrev main_call10_v3 : Ref sig .tc := ⟨.hbm, 201, rfl⟩
abbrev main_call10_v4 : Ref sig .tc := ⟨.hbm, 202, rfl⟩
abbrev main_call10_v5 : Ref sig .tc := ⟨.hbm, 203, rfl⟩
abbrev main_call10_c_1 : Ref sig .tc := ⟨.hbm, 204, rfl⟩
abbrev main_call10_c_2 : Ref sig .tc := ⟨.hbm, 205, rfl⟩
abbrev main_call10_v6 : Ref sig .tc := ⟨.hbm, 206, rfl⟩
abbrev main_call10_v7 : Ref sig .tc := ⟨.hbm, 207, rfl⟩
abbrev main_call10_v8 : Ref sig .tc := ⟨.hbm, 208, rfl⟩
abbrev main_call10_v9 : Ref sig .tc := ⟨.hbm, 209, rfl⟩
abbrev main_call10_v10 : Ref sig .tc := ⟨.hbm, 210, rfl⟩
abbrev main_call10_v11 : Ref sig .tc := ⟨.hbm, 211, rfl⟩
abbrev main_call10_c_3 : Ref sig .tc := ⟨.hbm, 212, rfl⟩
abbrev main_call10_v12 : Ref sig .tc := ⟨.hbm, 213, rfl⟩
abbrev main_call10_v13 : Ref sig .tc := ⟨.hbm, 214, rfl⟩
abbrev main_call10_v14 : Ref sig .tc := ⟨.hbm, 215, rfl⟩
abbrev main_call10_cst : Ref sig .tc := ⟨.hbm, 216, rfl⟩
abbrev main_call10_v15 : Ref sig .tc := ⟨.hbm, 217, rfl⟩
abbrev main_v29 : Ref sig .tc := ⟨.hbm, 218, rfl⟩
abbrev main_call11_c : Ref sig .tc := ⟨.hbm, 219, rfl⟩
abbrev main_call11_v0 : Ref sig .tc := ⟨.hbm, 220, rfl⟩
abbrev main_call11_v1 : Ref sig .tc := ⟨.hbm, 221, rfl⟩
abbrev main_call11_c_0 : Ref sig .tc := ⟨.hbm, 222, rfl⟩
abbrev main_call11_v2 : Ref sig .tc := ⟨.hbm, 223, rfl⟩
abbrev main_call11_v3 : Ref sig .tc := ⟨.hbm, 224, rfl⟩
abbrev main_call11_v4 : Ref sig .tc := ⟨.hbm, 225, rfl⟩
abbrev main_call11_v5 : Ref sig .tc := ⟨.hbm, 226, rfl⟩
abbrev main_call11_c_1 : Ref sig .tc := ⟨.hbm, 227, rfl⟩
abbrev main_call11_c_2 : Ref sig .tc := ⟨.hbm, 228, rfl⟩
abbrev main_call11_v6 : Ref sig .tc := ⟨.hbm, 229, rfl⟩
abbrev main_call11_v7 : Ref sig .tc := ⟨.hbm, 230, rfl⟩
abbrev main_call11_v8 : Ref sig .tc := ⟨.hbm, 231, rfl⟩
abbrev main_call11_v9 : Ref sig .tc := ⟨.hbm, 232, rfl⟩
abbrev main_call11_v10 : Ref sig .tc := ⟨.hbm, 233, rfl⟩
abbrev main_call11_v11 : Ref sig .tc := ⟨.hbm, 234, rfl⟩
abbrev main_call11_c_3 : Ref sig .tc := ⟨.hbm, 235, rfl⟩
abbrev main_call11_v12 : Ref sig .tc := ⟨.hbm, 236, rfl⟩
abbrev main_call11_v13 : Ref sig .tc := ⟨.hbm, 237, rfl⟩
abbrev main_call11_v14 : Ref sig .tc := ⟨.hbm, 238, rfl⟩
abbrev main_call11_cst : Ref sig .tc := ⟨.hbm, 239, rfl⟩
abbrev main_call11_v15 : Ref sig .tc := ⟨.hbm, 240, rfl⟩
abbrev main_v30 : Ref sig .tc := ⟨.hbm, 241, rfl⟩
abbrev main_call12_c : Ref sig .tc := ⟨.hbm, 242, rfl⟩
abbrev main_call12_v0 : Ref sig .tc := ⟨.hbm, 243, rfl⟩
abbrev main_call12_v1 : Ref sig .tc := ⟨.hbm, 244, rfl⟩
abbrev main_call12_c_0 : Ref sig .tc := ⟨.hbm, 245, rfl⟩
abbrev main_call12_v2 : Ref sig .tc := ⟨.hbm, 246, rfl⟩
abbrev main_call12_v3 : Ref sig .tc := ⟨.hbm, 247, rfl⟩
abbrev main_call12_v4 : Ref sig .tc := ⟨.hbm, 248, rfl⟩
abbrev main_call12_v5 : Ref sig .tc := ⟨.hbm, 249, rfl⟩
abbrev main_call12_c_1 : Ref sig .tc := ⟨.hbm, 250, rfl⟩
abbrev main_call12_c_2 : Ref sig .tc := ⟨.hbm, 251, rfl⟩
abbrev main_call12_v6 : Ref sig .tc := ⟨.hbm, 252, rfl⟩
abbrev main_call12_v7 : Ref sig .tc := ⟨.hbm, 253, rfl⟩
abbrev main_call12_v8 : Ref sig .tc := ⟨.hbm, 254, rfl⟩
abbrev main_call12_v9 : Ref sig .tc := ⟨.hbm, 255, rfl⟩
abbrev main_call12_v10 : Ref sig .tc := ⟨.hbm, 256, rfl⟩
abbrev main_call12_v11 : Ref sig .tc := ⟨.hbm, 257, rfl⟩
abbrev main_call12_c_3 : Ref sig .tc := ⟨.hbm, 258, rfl⟩
abbrev main_call12_v12 : Ref sig .tc := ⟨.hbm, 259, rfl⟩
abbrev main_call12_v13 : Ref sig .tc := ⟨.hbm, 260, rfl⟩
abbrev main_call12_v14 : Ref sig .tc := ⟨.hbm, 261, rfl⟩
abbrev main_call12_cst : Ref sig .tc := ⟨.hbm, 262, rfl⟩
abbrev main_call12_v15 : Ref sig .tc := ⟨.hbm, 263, rfl⟩
abbrev main_v31 : Ref sig .tc := ⟨.hbm, 264, rfl⟩
abbrev main_call13_c : Ref sig .tc := ⟨.hbm, 265, rfl⟩
abbrev main_call13_v0 : Ref sig .tc := ⟨.hbm, 266, rfl⟩
abbrev main_call13_v1 : Ref sig .tc := ⟨.hbm, 267, rfl⟩
abbrev main_call13_c_0 : Ref sig .tc := ⟨.hbm, 268, rfl⟩
abbrev main_call13_v2 : Ref sig .tc := ⟨.hbm, 269, rfl⟩
abbrev main_call13_v3 : Ref sig .tc := ⟨.hbm, 270, rfl⟩
abbrev main_call13_v4 : Ref sig .tc := ⟨.hbm, 271, rfl⟩
abbrev main_call13_v5 : Ref sig .tc := ⟨.hbm, 272, rfl⟩
abbrev main_call13_c_1 : Ref sig .tc := ⟨.hbm, 273, rfl⟩
abbrev main_call13_c_2 : Ref sig .tc := ⟨.hbm, 274, rfl⟩
abbrev main_call13_v6 : Ref sig .tc := ⟨.hbm, 275, rfl⟩
abbrev main_call13_v7 : Ref sig .tc := ⟨.hbm, 276, rfl⟩
abbrev main_call13_v8 : Ref sig .tc := ⟨.hbm, 277, rfl⟩
abbrev main_call13_v9 : Ref sig .tc := ⟨.hbm, 278, rfl⟩
abbrev main_call13_v10 : Ref sig .tc := ⟨.hbm, 279, rfl⟩
abbrev main_call13_v11 : Ref sig .tc := ⟨.hbm, 280, rfl⟩
abbrev main_call13_c_3 : Ref sig .tc := ⟨.hbm, 281, rfl⟩
abbrev main_call13_v12 : Ref sig .tc := ⟨.hbm, 282, rfl⟩
abbrev main_call13_v13 : Ref sig .tc := ⟨.hbm, 283, rfl⟩
abbrev main_call13_v14 : Ref sig .tc := ⟨.hbm, 284, rfl⟩
abbrev main_call13_cst : Ref sig .tc := ⟨.hbm, 285, rfl⟩
abbrev main_call13_v15 : Ref sig .tc := ⟨.hbm, 286, rfl⟩
abbrev main_v32 : Ref sig .tc := ⟨.hbm, 287, rfl⟩
abbrev main_v33 : Ref sig .tc := ⟨.hbm, 288, rfl⟩

abbrev nD : Nat := 1
abbrev τ : Topo := Topo.v7x

variable {F : FTy → Type} [FloatOps F]
-- ==== Proof.Spec.lean ====
/- The order in which the scan visits an image, stated once for the kernel and the reference. -/
module

public import Idealize.ShloMosaic.Lib.PointwiseCore

@[expose] public section

namespace Cert.Snake

open Idealize.ShloMosaic

/-- The mirror image of a position on an axis of 384. -/
def mir (k : Fin 384) : Fin 384 := ⟨383 - k.val, by omega⟩

/-- The position a serpentine walk visits at step `w` of line `r`: forward on even lines, backward on odd ones. -/
def serp (r w : Fin 384) : Fin 384 := if r.val % 2 = 1 then mir w else w

/-- The step of the walk that group `b` of the result puts at position `p`: the groups with `b / 2` even run forward,
    the others from the last step to the first. -/
def step (b : Fin 8) (p : Fin 147456) : Fin 147456 := if b.val / 2 % 2 = 0 then p else ⟨147455 - p.val, by omega⟩

/-- The line of the walk a step lies on. -/
def line (q : Fin 147456) : Fin 384 := ⟨q.val / 384, by omega⟩

/-- The position on its line a step visits. -/
def place (q : Fin 147456) : Fin 384 := serp (line q) ⟨q.val % 384, by omega⟩

/-- THE RESULT. At group `b`, position `p`, channel `ch`: image `b % 2` read at the step's line and place — line = row for
    the groups below 4 (the walk along the rows), line = column for the rest (the walk down the columns). -/
def scan {α : Type} (x : (⟨4, ![2, 384, 384, 96]⟩ : Shape).Idx → α) (b : Fin 8) (p : Fin 147456) (ch : Fin 96) : α :=
  if b.val < 4 then x (ix4 ⟨b.val % 2, by omega⟩ (line (step b p)) (place (step b p)) ch)
  else x (ix4 ⟨b.val % 2, by omega⟩ (place (step b p)) (line (step b p)) ch)

end Cert.Snake

end
-- ==== Proof.Block.lean ====
/- What one grid point computes: its block of the input with every line put in the order the scan visits it. -/
module

public import proofs.«01_k».proof.Proof.Spec
public import proofs.«01_k».proof.Proof.Gen.KernelIdeal.Skeleton
public import Idealize.ShloMosaic.Lib.PointwiseCore
public import Idealize.ShloMosaic.Lib.Pipeline.ValueKit

@[expose] public section

set_option maxRecDepth 16384
set_option maxHeartbeats 400000

noncomputable section

namespace Cert.KernelIdeal.Snake

open Idealize.ShloMosaic Cert.KernelIdeal.Gen Cert.Snake

variable {F : FTy → Type} [FloatOps F]

/-- The mask of the odd lines. -/
theorem odd_mask (r : Fin 384) : k0_pay1 (ix3 r 0 0) = if r.val % 2 = 1 then 1#1 else 0#1 := by
  revert r; decide +kernel

/-- The lane a gather of the block's reversal reads at lane `l` of its chunk. -/
theorem lane_word (l : Fin 128) :
    (Scalar.select (IntOp.cmpi .slt (IntOp.subi 127#32 (BitVec.ofNat 32 l.val)) 0#32)
      (IntOp.addi (IntOp.subi 127#32 (BitVec.ofNat 32 l.val)) 128#32)
      (IntOp.subi 127#32 (BitVec.ofNat 32 l.val))).toNat % 128 = 127 - l.val := by
  revert l; decide +kernel

/-- The same at a natural number below 128. -/
theorem lane_nat (l : Nat) (h : l < 128) :
    (Scalar.select (IntOp.cmpi .slt (IntOp.subi 127#32 (BitVec.ofNat 32 l)) 0#32)
      (IntOp.addi (IntOp.subi 127#32 (BitVec.ofNat 32 l)) 128#32)
      (IntOp.subi 127#32 (BitVec.ofNat 32 l))).toNat % 128 = 127 - l := lane_word ⟨l, h⟩

/-- A select on the mask of the odd lines is a case distinction on the line's parity. -/
theorem select_odd {α : Type} (r : Fin 384) (a b : α) :
    Scalar.select (k0_pay1 (ix3 r 0 0)) a b = if r.val % 2 = 1 then a else b := by
  rw [odd_mask]; split <;> rfl

/-- Three chunks of 128 lanes, each gathered backward, taken last to first: the mirrored lane. -/
theorem mirrored {α : Type} (f : Fin 384 → α) (w : Fin 384) (h1 h2 h3) :
    (if _h : w.val < 128 then
        f ⟨256 + (Scalar.select (IntOp.cmpi .slt (IntOp.subi 127#32 (BitVec.ofNat 32 w.val)) 0#32)
          (IntOp.addi (IntOp.subi 127#32 (BitVec.ofNat 32 w.val)) 128#32)
          (IntOp.subi 127#32 (BitVec.ofNat 32 w.val))).toNat % 128, h1⟩
      else if _h : w.val - 128 < 128 then
        f ⟨128 + (Scalar.select (IntOp.cmpi .slt (IntOp.subi 127#32 (BitVec.ofNat 32 (w.val - 128))) 0#32)
          (IntOp.addi (IntOp.subi 127#32 (BitVec.ofNat 32 (w.val - 128))) 128#32)
          (IntOp.subi 127#32 (BitVec.ofNat 32 (w.val - 128)))).toNat % 128, h2⟩
      else
        f ⟨(Scalar.select (IntOp.cmpi .slt (IntOp.subi 127#32 (BitVec.ofNat 32 (w.val - 128 - 128))) 0#32)
          (IntOp.addi (IntOp.subi 127#32 (BitVec.ofNat 32 (w.val - 128 - 128))) 128#32)
          (IntOp.subi 127#32 (BitVec.ofNat 32 (w.val - 128 - 128)))).toNat % 128, h3⟩) = f (mir w) := by
  have hw := w.isLt
  split_ifs with a b
  all_goals
    refine congrArg f (Fin.ext ?_)
    simp only [mir]
    rw [lane_nat _ (by omega)]
    omega

/-- What an even point stores: each line of its block, the odd lines mirrored. -/
theorem fwd_block (v : Vec F S1x384x1x8x384 .f32) (r : Fin 384) (s : Fin 8) (w : Fin 384) :
    k0_pay3 v (ix5 0 0 r s w) = v (ix5 0 r 0 s (serp r w)) := by
  pointwise [k0_pay3, k0_pay2]
  have hw := w.isLt
  rw [select_odd]
  by_cases hr : r.val % 2 = 1
  · refine (if_pos hr).trans (Eq.trans ?_ (congrArg (fun k => v (ix5 0 r 0 s k)) (if_pos hr).symm))
    refine Eq.trans ?_ (mirrored (fun k => v (ix5 0 r 0 s k)) w (by omega) (by omega) (by omega))
    exact dite_congr rfl (fun _ => rfl) fun _ => dite_congr rfl (fun _ => rfl) fun _ => rfl
  · exact (if_neg hr).trans (congrArg (fun k => v (ix5 0 r 0 s k)) (if_neg hr).symm)

/-- Cutting one line out of each group of eight. -/
theorem cut8 (n : Fin 8) : S48x8x8x384.Slices ![0, 7 - n.val, 0, 0] S48x1x8x384 := by
  revert n; decide

/-- Cutting one group out of the forty-eight. -/
theorem cut48 (n : Fin 48) : S48x8x8x384.Slices ![47 - n.val, 0, 0, 0] S1x8x8x384 := by
  revert n; decide

/-- The eight lines of each group cut out one at a time and concatenated last to first: the lines reversed. -/
theorem lines8 {α : Type} (y : S48x8x8x384.Idx → α) (h) (g : Fin 48) (q s : Fin 8) (w : Fin 384) :
    concatenate S48x8x8x384 1 (List.ofFn fun n : Fin 8 =>
        (⟨S48x1x8x384, extractStridedSlice S48x1x8x384 ![0, 7 - n.val, 0, 0] y (cut8 n)⟩ : (s : Shape) × (s.Idx → α)))
      h (ix4 g q s w) = y (ix4 g ⟨7 - q.val, by omega⟩ s w) := by
  refine (concatenate_ofFn_unit_apply (t := S48x8x8x384) (1 : Fin 4) _ h rfl rfl (ix4 g q s w) q rfl (ix4 g 0 s w) ?_).trans ?_
  · intro b hb
    fin_cases b <;> first | rfl | exact absurd rfl hb
  · pointwise []

/-- The forty-eight groups cut out one at a time and concatenated last to first: the groups reversed. -/
theorem groups48 {α : Type} (y : S48x8x8x384.Idx → α) (h) (g : Fin 48) (q s : Fin 8) (w : Fin 384) :
    concatenate S48x8x8x384 0 (List.ofFn fun n : Fin 48 =>
        (⟨S1x8x8x384, extractStridedSlice S1x8x8x384 ![47 - n.val, 0, 0, 0] y (cut48 n)⟩ : (s : Shape) × (s.Idx → α)))
      h (ix4 g q s w) = y (ix4 ⟨47 - g.val, by omega⟩ q s w) := by
  refine (concatenate_ofFn_unit_apply (t := S48x8x8x384) (0 : Fin 4) _ h rfl rfl (ix4 g q s w) g rfl (ix4 0 q s w) ?_).trans ?_
  · intro b hb
    fin_cases b <;> first | rfl | exact absurd rfl hb
  · pointwise []

/-- The first half of what an odd point computes: within each group of eight lines the order is reversed, and the even
    lines are mirrored. -/
theorem bwd_inner (x : FVec F S384x8x384 .f32) (g : Fin 48) (q s : Fin 8) (w : Fin 384) (r : Fin 384)
    (hr : r.val = g.val * 8 + (7 - q.val)) :
    k0_pay5 k0_pay1 x (ix4 g q s w) = x (ix3 r s (if r.val % 2 = 1 then w else mir w)) := by
  obtain ⟨r, hlt⟩ := r
  obtain rfl : r = g.val * 8 + (7 - q.val) := hr
  unfold k0_pay5
  dsimp only
  refine (lines8 _ _ g q s w).trans ?_
  pointwise []
  have hw := w.isLt
  rw [select_odd]
  by_cases hr : (g.val * 8 + (7 - q.val)) % 2 = 1
  · exact (if_pos hr).trans (congrArg (fun k => x (ix3 ⟨g.val * 8 + (7 - q.val), hlt⟩ s k)) (if_pos hr).symm)
  · refine (if_neg hr).trans (Eq.trans ?_ (congrArg (fun k => x (ix3 ⟨g.val * 8 + (7 - q.val), hlt⟩ s k)) (if_neg hr).symm))
    refine Eq.trans ?_ (mirrored (fun k => x (ix3 ⟨g.val * 8 + (7 - q.val), hlt⟩ s k)) w (by omega) (by omega) (by omega))
    exact dite_congr rfl (fun _ => rfl) fun _ => dite_congr rfl (fun _ => rfl) fun _ => rfl

/-- The second half: the groups in reverse order. -/
theorem bwd_outer (y : FVec F S48x8x8x384 .f32) (r : Fin 384) (s : Fin 8) (w : Fin 384) :
    k0_pay4 y (extractStridedSlice S1x8x8x384 ![47, 0, 0, 0] y slices_S48x8x8x384_o47_0_0_0_S1x8x8x384)
       (extractStridedSlice S1x8x8x384 ![46, 0, 0, 0] y slices_S48x8x8x384_o46_0_0_0_S1x8x8x384)
       (extractStridedSlice S1x8x8x384 ![45, 0, 0, 0] y slices_S48x8x8x384_o45_0_0_0_S1x8x8x384)
      (ix5 0 0 r s w) = y (ix4 ⟨47 - r.val / 8, by omega⟩ ⟨r.val % 8, by omega⟩ s w) := by
  have hg := fun h => groups48 y h ⟨r.val / 8, by omega⟩ ⟨r.val % 8, by omega⟩ s w
  unfold k0_pay4
  rw [shapeCast_apply _ _ _ (ix3 r s w) (by rw [Shape.rowMajor_val_three, Shape.rowMajor_val_five]; simp [ix3, ix5]),
    shapeCast_apply _ _ _ (ix4 ⟨r.val / 8, by omega⟩ ⟨r.val % 8, by omega⟩ s w) (by rw [Shape.rowMajor_val_three, Shape.rowMajor_val_four]; simp [ix3, ix4]; omega)]
  exact hg _

/-- What an odd point stores: line `r` is the mirror line of its block, walked the other way. -/
theorem bwd_block (v : Vec F S1x384x1x8x384 .f32) (r : Fin 384) (s : Fin 8) (w : Fin 384) :
    k0_pay4 (k0_pay5 k0_pay1 (k0_pay2 v)) (k0_pay6 k0_pay1 (k0_pay2 v)) (k0_pay7 k0_pay1 (k0_pay2 v))
        (k0_pay8 k0_pay1 (k0_pay2 v)) (ix5 0 0 r s w) = v (ix5 0 (mir r) 0 s (serp (mir r) (mir w))) := by
  refine (bwd_outer (k0_pay5 k0_pay1 (k0_pay2 v)) r s w).trans ?_
  refine (bwd_inner (k0_pay2 v) _ _ s w (mir r) (by simp only [mir]; omega)).trans ?_
  have hm : serp (mir r) (mir w) = if (mir r).val % 2 = 1 then w else mir w := by
    unfold serp
    split_ifs
    · apply Fin.ext; simp only [mir]; omega
    · rfl
  rw [hm]
  pointwise [k0_pay2]

end Cert.KernelIdeal.Snake

end
-- ==== Proof.Arrays.lean ====
/- What the two launches leave in the result array: the first writes the four groups of the walks along the rows, the
   second the four of the walks down the columns, over the array the first one left. -/
module

public import proofs.«01_k».proof.Proof.Block
public import proofs.«01_k».proof.Proof.Gen.KernelIdeal.Frame
public import Idealize.ShloMosaic.Lib.Pipeline.ValueKit

@[expose] public section

set_option maxRecDepth 16384
set_option maxHeartbeats 1000000

noncomputable section

namespace Cert.KernelIdeal.Snake

open Idealize.ShloMosaic Idealize.ShloMosaic.TcCoe Idealize.SL.Sem
open Idealize.ShloMosaic.Pipeline (Dat)
open Cert.KernelIdeal.Gen Cert.Snake

variable {F : FTy → Type} [FloatOps F]

/-- The element a launch reading `X` puts at `(b, g, r, s, w)` of the result array: image `b % 2`, channel `8 g + s`, at
    step `w` of line `r` of the walk — forward when `b / 2` is even, and backward, from the last step of the last line,
    when it is odd. -/
def walk {α : Type} (X : S2x384x12x8x384.Idx → α) (b : Fin 8) (g : Fin 12) (r : Fin 384) (s : Fin 8) (w : Fin 384) : α :=
  if b.val / 2 % 2 = 0 then X (ix5 ⟨b.val % 2, by omega⟩ r g s (serp r w))
  else X (ix5 ⟨b.val % 2, by omega⟩ (mir r) g s (serp (mir r) (mir w)))

/-- A forward group. -/
theorem walk_fwd {α : Type} (X : S2x384x12x8x384.Idx → α) (b : Fin 8) (n : Fin 2) (hb : b.val / 2 % 2 = 0) (hn : b.val % 2 = n.val)
    (g : Fin 12) (r : Fin 384) (s : Fin 8) (w : Fin 384) : walk X b g r s w = X (ix5 n r g s (serp r w)) := by
  rw [← (Fin.ext hn : (⟨b.val % 2, by omega⟩ : Fin 2) = n)]
  exact if_pos hb

/-- A backward group. -/
theorem walk_bwd {α : Type} (X : S2x384x12x8x384.Idx → α) (b : Fin 8) (n : Fin 2) (hb : ¬b.val / 2 % 2 = 0) (hn : b.val % 2 = n.val)
    (g : Fin 12) (r : Fin 384) (s : Fin 8) (w : Fin 384) : walk X b g r s w = X (ix5 n (mir r) g s (serp (mir r) (mir w))) := by
  rw [← (Fin.ext hn : (⟨b.val % 2, by omega⟩ : Fin 2) = n)]
  exact if_neg hb

variable (V : (c : Dev nD) → (b : Ref sig .tc) → Buf (Elt F) ((c : Thread nD τ).loc b))

/-! ## The first launch -/

/-- Which block of its input each point of the first launch reads, and which block of the result it writes. -/
theorem idx0 (t : Fin grid0.N) : win0_0.index t = ![t.val / 24, 0, t.val / 2 % 12, 0, 0]
    ∧ win0_1.index t = ![t.val % 2 * 2 + t.val / 24, t.val / 2 % 12, 0, 0, 0] := by
  revert t; decide +kernel

/-- The input block of a point, element by element. -/
theorem in0 (c : Dev nD) (t : Fin grid0.N) (n : Fin 2) (g : Fin 12) (hn : n.val = t.val / 24) (hg : g.val = t.val / 2 % 12)
    (r : Fin 384) (s : Fin 8) (w : Fin 384) :
    iblk0 V c 0 t (ix5 0 r 0 s w) = V c main_v1 (ix5 n r g s w) := by
  blk_ext! [iblk0, (idx0 t).1]

/-- Where a point's result block lies in the result array. -/
theorem out0 (t : Fin grid0.N) (b : Fin 8) (g : Fin 12) (hb : b.val = t.val % 2 * 2 + t.val / 24) (hg : g.val = t.val / 2 % 12)
    (r : Fin 384) (s : Fin 8) (w : Fin 384) :
    ((View.whole main_v3).slice (win0_1.rect t)).emb (ix5 0 0 r s w) = ix5 b g r s w := by
  blk_ext! [(idx0 t).2]

/-- After the first launch the groups 0 to 3 hold the walks over its input, the rest what was there before. -/
theorem array0 (c : Dev nD) :
    (dat0 V c).arrAt 1 cfg0.N = fun i : S8x12x384x8x384.Idx =>
      if (i 0).val < 4 then walk (V c main_v1) (i 0) (i 1) (i 2) (i 3) (i 4) else V c main_v3 i := by
  refine (dat0 V c).arrAt_eq_of_coversWhere 1 (fun i : S8x12x384x8x384.Idx => walk (V c main_v1) (i 0) (i 1) (i 2) (i 3) (i 4))
    (fun β => β (0 : Fin 5) < 4) (by decide +kernel) (fun t hf y => ?_) (fun j => ?_)
  · have ht : t.val < 48 := lt_of_lt_of_eq t.isLt N_0
    obtain ⟨r, s, w, rfl⟩ : ∃ (r : Fin 384) (s : Fin 8) (w : Fin 384), y = ix5 (0 : Fin 1) (0 : Fin 1) r s w :=
      ⟨y 2, y 3, y 4, (eq_ix5 y).trans (by congr 1 <;> exact Subsingleton.elim (α := Fin 1) _ _)⟩
    blk_simp
    obtain ⟨b, hb⟩ : ∃ b : Fin 8, b.val = t.val % 2 * 2 + t.val / 24 := ⟨⟨_, by omega⟩, rfl⟩
    obtain ⟨n, hn⟩ : ∃ n : Fin 2, n.val = t.val / 24 := ⟨⟨_, by omega⟩, rfl⟩
    obtain ⟨g, hg⟩ : ∃ g : Fin 12, g.val = t.val / 2 % 12 := ⟨⟨_, by omega⟩, rfl⟩
    rw [after0_1, out0 t b g hb hg r s w]
    by_cases h : t.val % 2 = 0
    · rw [outsAt0_A V c t h (by omega)]
      frame_out
      refine (fwd_block _ r s w).trans ((in0 V c t n g hn hg _ _ _).trans ?_)
      exact (walk_fwd _ b n (by omega) (by omega) _ _ _ _).symm
    · rw [outsAt0_B V c t h (by omega)]
      frame_out
      refine (bwd_block _ r s w).trans ((in0 V c t n g hn hg _ _ _).trans ?_)
      exact (walk_bwd _ b n (by omega) (by omega) _ _ _ _).symm
  · blk_simp [Pipeline.Window.cell_apply]
    omega

/-! ## The second launch -/

/-- Which block of its input each point of the second launch reads, and which block of the result it writes. -/
theorem idx1 (t : Fin grid1.N) : win1_0.index t = ![t.val / 24, 0, t.val / 2 % 12, 0, 0]
    ∧ win1_1.index t = ![4 + t.val % 2 * 2 + t.val / 24, t.val / 2 % 12, 0, 0, 0] := by
  revert t; decide +kernel

/-- The input block of a point, element by element. -/
theorem in1 (c : Dev nD) (t : Fin grid1.N) (n : Fin 2) (g : Fin 12) (hn : n.val = t.val / 24) (hg : g.val = t.val / 2 % 12)
    (r : Fin 384) (s : Fin 8) (w : Fin 384) :
    iblk1 V c 0 t (ix5 0 r 0 s w) = V c main_v2 (ix5 n r g s w) := by
  blk_ext! [iblk1, (idx1 t).1]

/-- Where a point's result block lies in the result array. -/
theorem out1 (t : Fin grid1.N) (b : Fin 8) (g : Fin 12) (hb : b.val = 4 + t.val % 2 * 2 + t.val / 24) (hg : g.val = t.val / 2 % 12)
    (r : Fin 384) (s : Fin 8) (w : Fin 384) :
    ((View.whole main_v4).slice (win1_1.rect t)).emb (ix5 0 0 r s w) = ix5 b g r s w := by
  blk_ext! [(idx1 t).2]

/-- The second launch's even points compute what the first launch's do. -/
theorem fwd_block1 (v : Vec F S1x384x1x8x384 .f32) (r : Fin 384) (s : Fin 8) (w : Fin 384) :
    k1_pay3 v (ix5 0 0 r s w) = v (ix5 0 r 0 s (serp r w)) := fwd_block v r s w

/-- And so do its odd points. -/
theorem bwd_block1 (v : Vec F S1x384x1x8x384 .f32) (r : Fin 384) (s : Fin 8) (w : Fin 384) :
    k1_pay4 (k1_pay5 k1_pay1 (k1_pay2 v)) (k1_pay6 k1_pay1 (k1_pay2 v)) (k1_pay7 k1_pay1 (k1_pay2 v))
        (k1_pay8 k1_pay1 (k1_pay2 v)) (ix5 0 0 r s w) = v (ix5 0 (mir r) 0 s (serp (mir r) (mir w))) := bwd_block v r s w

/-- After the second launch the groups 4 to 7 hold the walks over its input, the rest what was there before. -/
theorem array1 (c : Dev nD) :
    (dat1 V c).arrAt 1 cfg1.N = fun i : S8x12x384x8x384.Idx =>
      if 4 ≤ (i 0).val then walk (V c main_v2) (i 0) (i 1) (i 2) (i 3) (i 4) else V c main_v4 i := by
  refine (dat1 V c).arrAt_eq_of_coversWhere 1 (fun i : S8x12x384x8x384.Idx => walk (V c main_v2) (i 0) (i 1) (i 2) (i 3) (i 4))
    (fun β => 4 ≤ β (0 : Fin 5)) (by decide +kernel) (fun t hf y => ?_) (fun j => ?_)
  · have ht : t.val < 48 := lt_of_lt_of_eq t.isLt N_1
    obtain ⟨r, s, w, rfl⟩ : ∃ (r : Fin 384) (s : Fin 8) (w : Fin 384), y = ix5 (0 : Fin 1) (0 : Fin 1) r s w :=
      ⟨y 2, y 3, y 4, (eq_ix5 y).trans (by congr 1 <;> exact Subsingleton.elim (α := Fin 1) _ _)⟩
    blk_simp
    obtain ⟨b, hb⟩ : ∃ b : Fin 8, b.val = 4 + t.val % 2 * 2 + t.val / 24 := ⟨⟨_, by omega⟩, rfl⟩
    obtain ⟨n, hn⟩ : ∃ n : Fin 2, n.val = t.val / 24 := ⟨⟨_, by omega⟩, rfl⟩
    obtain ⟨g, hg⟩ : ∃ g : Fin 12, g.val = t.val / 2 % 12 := ⟨⟨_, by omega⟩, rfl⟩
    rw [after1_1, out1 t b g hb hg r s w]
    by_cases h : t.val % 2 = 0
    · rw [outsAt1_A V c t h (by omega)]
      frame_out
      refine (fwd_block1 _ r s w).trans ((in1 V c t n g hn hg _ _ _).trans ?_)
      exact (walk_fwd _ b n (by omega) (by omega) _ _ _ _).symm
    · rw [outsAt1_B V c t h (by omega)]
      frame_out
      refine (bwd_block1 _ r s w).trans ((in1 V c t n g hn hg _ _ _).trans ?_)
      exact (walk_bwd _ b n (by omega) (by omega) _ _ _ _).symm
  · blk_simp [Pipeline.Window.cell_apply]
    omega

end Cert.KernelIdeal.Snake

end
-- ==== Proof.Result.lean ====
/- What the kernel's result array holds at the end of the run. -/
module

public import proofs.«01_k».proof.Proof.Arrays
public import Idealize.ShloMosaic.Lib.Claim

@[expose] public section

set_option maxRecDepth 16384
set_option maxHeartbeats 1000000

noncomputable section

namespace Cert.KernelIdeal.Snake

open Idealize.ShloMosaic Idealize.ShloMosaic.TcCoe Idealize.SL.Sem
open Cert.KernelIdeal.Gen Cert.Snake

variable {F : FTy → Type} [FloatOps F]
variable (m : (ℓ : Loc nD τ sig) → Buf (Elt F) ℓ) (ρ : Dev nD → PrngReg)

/-- The launched argument. -/
abbrev arg (c : Dev nD) : S2x384x384x96.Idx → F .f32 := m ((c : Thread nD τ).loc main_arg0)

/-- The first launch's input: the argument with the channels, split in groups of eight, before the columns. -/
theorem rows (c : Dev nD) : (V1 m ρ c main_v1 : S2x384x12x8x384.Idx → F .f32)
    = shapeCast S2x384x12x8x384 (transpose S2x384x96x384 [0, 1, 3, 2] (arg m c)
        transposes_S2x384x384x96_S2x384x96x384_0_1_3_2) shapeCasts_S2x384x96x384_S2x384x12x8x384 := by
  unfold_abbrev_sides
  after_results
  rfl

/-- The second launch's input: the first's with rows and columns exchanged. -/
theorem cols (c : Dev nD) : (V1 m ρ c main_v2 : S2x384x12x8x384.Idx → F .f32)
    = transpose S2x384x12x8x384 [0, 4, 2, 3, 1] (V1 m ρ c main_v1 : S2x384x12x8x384.Idx → F .f32)
        transposes_S2x384x12x8x384_S2x384x12x8x384_0_4_2_3_1 := by
  refine Eq.trans ?_ (congrArg (fun X => transpose S2x384x12x8x384 [0, 4, 2, 3, 1] X
        transposes_S2x384x12x8x384_S2x384x12x8x384_0_4_2_3_1) (rows m ρ c).symm)
  unfold_abbrev_sides
  after_results
  rfl

/-- The first launch's input at an index. -/
theorem rows_apply (c : Dev nD) (n : Fin 2) (r : Fin 384) (g : Fin 12) (s : Fin 8) (w : Fin 384) :
    (V1 m ρ c main_v1 : S2x384x12x8x384.Idx → F .f32) (ix5 n r g s w) = arg m c (ix4 n r w ⟨g.val * 8 + s.val, by omega⟩) := by
  rw [rows]; pointwise []

/-- The second launch's input at an index. -/
theorem cols_apply (c : Dev nD) (n : Fin 2) (r : Fin 384) (g : Fin 12) (s : Fin 8) (w : Fin 384) :
    (V1 m ρ c main_v2 : S2x384x12x8x384.Idx → F .f32) (ix5 n r g s w) = arg m c (ix4 n w r ⟨g.val * 8 + s.val, by omega⟩) := by
  rw [cols, ← rows_apply m ρ c n w g s r]; pointwise []

/-- The array after both launches, at an index. -/
theorem both (c : Dev nD) (b : Fin 8) (g : Fin 12) (r : Fin 384) (s : Fin 8) (w : Fin 384) :
    (W4 m ρ c (Proc.devRef .tc main_v4) : S8x12x384x8x384.Idx → F .f32) (ix5 b g r s w)
      = if b.val < 4 then walk (V1 m ρ c main_v1 : S2x384x12x8x384.Idx → F .f32) b g r s w
        else walk (V1 m ρ c main_v2 : S2x384x12x8x384.Idx → F .f32) b g r s w := by
  have h4 : (W4 m ρ c (Proc.devRef .tc main_v4) : S8x12x384x8x384.Idx → F .f32) = (dat1 (V3 m ρ) c).arrAt 1 cfg1.N := W4_arr m ρ c 1
  have h2 : (V2 m ρ c main_v3 : S8x12x384x8x384.Idx → F .f32) = (dat0 (V1 m ρ) c).arrAt 1 cfg0.N := W2_arr m ρ c 1
  have h3 : (V3 m ρ c main_v4 : S8x12x384x8x384.Idx → F .f32) = V2 m ρ c main_v3 := by
    unfold_abbrev_sides
    after_results
    rfl
  have hx : (V3 m ρ c main_v2 : S2x384x12x8x384.Idx → F .f32) = V1 m ρ c main_v2 :=
    (W3_of m ρ c main_v2 (by decide)).trans (W2_of_ne m ρ c main_v2 (by decide))
  rw [h4, array1]
  by_cases hb : b.val < 4
  · refine (if_neg (not_le.mpr hb)).trans ?_
    rw [if_pos hb, h3, h2, array0]
    exact if_pos hb
  · refine (if_pos (not_lt.mp hb)).trans ?_
    rw [if_neg hb, hx]
    rfl

/-- The result array from the array the launches leave. -/
theorem last (c : Dev nD) : (W5 m ρ c (Proc.devRef .tc main_v6) : S8x147456x96.Idx → F .f32)
    = shapeCast S8x147456x96 (transpose S8x384x384x12x8 [0, 2, 4, 1, 3] (W4 m ρ c (Proc.devRef .tc main_v4) : S8x12x384x8x384.Idx → F .f32)
        transposes_S8x12x384x8x384_S8x384x384x12x8_0_2_4_1_3) shapeCasts_S8x384x384x12x8_S8x147456x96 := by
  unfold_abbrev_sides
  after_results
  rfl

/-- A launch's walk, by the step of the scan: the input at the step's line and place. -/
theorem walk_step {α : Type} (X : S2x384x12x8x384.Idx → α) (b : Fin 8) (g : Fin 12) (s : Fin 8) (p : Fin 147456) :
    walk X b g ⟨p.val / 384, by omega⟩ s ⟨p.val % 384, by omega⟩
      = X (ix5 ⟨b.val % 2, by omega⟩ (line (step b p)) g s (place (step b p))) := by
  by_cases hb : b.val / 2 % 2 = 0
  · have hs : step b p = p := if_pos hb
    rw [hs]
    exact walk_fwd X b _ hb rfl g _ s _
  · have hs : step b p = ⟨147455 - p.val, by omega⟩ := if_neg hb
    have hl : line (step b p) = mir ⟨p.val / 384, by omega⟩ := by
      rw [hs]; apply Fin.ext; show (147455 - p.val) / 384 = 383 - p.val / 384; omega
    have hp : place (step b p) = serp (mir ⟨p.val / 384, by omega⟩) (mir ⟨p.val % 384, by omega⟩) := by
      unfold place
      rw [hl]
      refine congrArg (serp _) (Fin.ext ?_)
      rw [hs]; show (147455 - p.val) % 384 = 383 - p.val % 384; omega
    rw [hl, hp]
    exact walk_bwd X b _ hb rfl g _ s _

/-- THE KERNEL'S RESULT is the scan of its argument. -/
theorem result (c : Dev nD) (b : Fin 8) (p : Fin 147456) (ch : Fin 96) :
    (W5 m ρ c (Proc.devRef .tc main_v6) : S8x147456x96.Idx → F .f32) (ix3 b p ch) = scan (arg m c) b p ch := by
  rw [last]
  pointwise []
  have hc : (⟨ch.val / 8 * 8 + ch.val % 8, by omega⟩ : Fin 96) = ch := Fin.ext (by show ch.val / 8 * 8 + ch.val % 8 = ch.val; omega)
  rw [both, walk_step, walk_step, rows_apply, cols_apply, hc]
  rfl

end Cert.KernelIdeal.Snake

end
-- ==== Proof.Run.lean ====
/- The kernel's run: it ends with its result array at the scan of its argument, and the argument as launched. -/
module

public import proofs.«01_k».proof.Proof.Result

@[expose] public section

set_option maxRecDepth 16384

noncomputable section

namespace Cert.KernelIdeal.Snake

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Snake Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each of the core's buffers at the contents computed for the end of the program. -/
theorem ends : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W5 m ρ c b)
    (hfin := fun c s' => by
      iintro ⟨⟨Hh, -⟩, HSI⟩
      unfold StableHlo.held
      imodintro
      iapply (pointsTo_read_all (Pipeline.ucRefs τ sig) (fun b => ((c : Thread nD τ).1, b)) (W5 m ρ c) s')
      isplitl [Hh] <;> iassumption)
    (hQ := fun _ h _ => h)

/-- The result array as a whole: the scan of the argument, at every index. -/
abbrev scanned (x : S2x384x384x96.Idx → F .f32) : S8x147456x96.Idx → F .f32 := fun i => scan x (i 0) (i 1) (i 2)

/-- THE RUN: the result array ends at the scan of the argument, and the argument is as launched. -/
theorem run : θ_run defs (onTc (τ := τ) (main (F := F))) ⟨m, fun _ => 0, ρ⟩ (fun r => ∀ c : Dev nD,
      r.2.mem ((c.tc : Thread nD τ).loc main_v6) = scanned (arg m c)
      ∧ r.2.mem ((c.tc : Thread nD τ).loc main_arg0) = m ((c.tc : Thread nD τ).loc main_arg0)) :=
  (θ_run defs _ _).mono (fun _ h c =>
    ⟨(h c _ (mem_uc main_v6 (by decide))).trans (funext fun i => by
        rw [eq_ix3 i]
        exact result m ρ c _ _ _),
      (h c _ (mem_uc main_arg0 (by decide))).trans (W5_main_arg0 m ρ c)⟩) (ends m ρ)

end Cert.KernelIdeal.Snake

end
-- ==== Proof.Words.lean ====
/- Quotient and remainder of nonnegative 32-bit words, as the reference's floor division and remainder compute them. -/
module

public import Idealize.ShloMosaic.Lib.Routing.Words

@[expose] public section

namespace Cert.Snake

open Idealize.ShloMosaic

/-- A word's sign. -/
def sgn (a : BitVec 32) : BitVec 32 := if a = 0 then 0 else if a.msb then -1 else 1

/-- Floor division: the quotient towards zero, less one where the signs differ and the division is not exact. -/
def floorDiv (a k : BitVec 32) : BitVec 32 :=
  Scalar.select (IntOp.andi (IntOp.cmpi .ne (sgn a) (sgn k)) (IntOp.cmpi .ne (IntOp.remsi .host a k) 0#32))
    (IntOp.subi (IntOp.divsi .host a k) 1#32) (IntOp.divsi .host a k)

/-- The divisor that a remainder divides by: one in place of zero. -/
def divisor (k : BitVec 32) : BitVec 32 := Scalar.select (IntOp.cmpi .eq k 0#32) 1#32 k

/-- Remainder with the divisor's sign: the divisor is added where the remainder is nonzero and of the other sign. -/
def floorRem (a k : BitVec 32) : BitVec 32 :=
  Scalar.select
    (IntOp.andi
      (IntOp.cmpi .ne (IntOp.cmpi .slt (IntOp.remsi .host a (divisor k)) 0#32) (IntOp.cmpi .slt (divisor k) 0#32))
      (IntOp.cmpi .ne (IntOp.remsi .host a (divisor k)) 0#32))
    (IntOp.addi (IntOp.remsi .host a (divisor k)) (divisor k))
    (IntOp.remsi .host a (divisor k))

/-- Words of naturals below `2 ^ 31` are equal only where the naturals are. -/
theorem word_inj {a b : Nat} (ha : a < 2 ^ 31) (hb : b < 2 ^ 31) (h : BitVec.ofNat 32 a = BitVec.ofNat 32 b) : a = b := by
  have := congrArg BitVec.toNat h
  simp only [BitVec.toNat_ofNat] at this
  omega

/-- The word of a natural below `2 ^ 31` is not negative. -/
theorem msb_word {a : Nat} (ha : a < 2 ^ 31) : (BitVec.ofNat 32 a).msb = false := by
  rw [BitVec.msb_eq_false_iff_two_mul_lt, BitVec.toNat_ofNat]
  omega

/-- The same, as a signed comparison with zero. -/
theorem not_slt_word {a : Nat} (ha : a < 2 ^ 31) : IntOp.cmpi .slt (BitVec.ofNat 32 a) 0#32 = 0#1 := by
  have h : (BitVec.ofNat 32 a).slt 0#32 = false := by
    rw [BitVec.slt_zero_eq_msb, msb_word ha]
  show BitVec.ofBool ((BitVec.ofNat 32 a).slt 0#32) = 0#1
  rw [h]; rfl

/-- The sign of a positive word is one. -/
theorem sgn_word {a : Nat} (h0 : 0 < a) (ha : a < 2 ^ 31) : sgn (BitVec.ofNat 32 a) = 1 := by
  unfold sgn
  have hn : BitVec.ofNat 32 a ≠ 0 := fun h => absurd (word_inj (b := 0) ha (by omega) h) (by omega)
  rw [if_neg hn, msb_word ha]
  rfl

/-- Floor division of words is that of the naturals they stand for. -/
theorem floorDiv_word {a k : Nat} (ha : a < 2 ^ 31) (h0 : 0 < k) (hk : k < 2 ^ 31) :
    floorDiv (BitVec.ofNat 32 a) (BitVec.ofNat 32 k) = BitVec.ofNat 32 (a / k) := by
  unfold floorDiv
  rw [Routing.remsi_word .host ha h0 hk, Routing.divsi_word .host ha h0 hk, sgn_word h0 hk]
  rcases Nat.eq_zero_or_pos a with rfl | hp
  · rw [Nat.zero_mod, Nat.zero_div]; decide
  · rw [sgn_word hp ha]
    show Scalar.select (0#1 &&& _) _ _ = _
    rw [BitVec.zero_and]; rfl

/-- A positive divisor is divided by as it stands. -/
theorem divisor_word {k : Nat} (h0 : 0 < k) (hk : k < 2 ^ 31) : divisor (BitVec.ofNat 32 k) = BitVec.ofNat 32 k := by
  unfold divisor
  have h : (BitVec.ofNat 32 k == 0#32) = false := by
    rw [beq_eq_false_iff_ne]
    exact fun h => absurd (word_inj (b := 0) hk (by omega) h) (by omega)
  show Scalar.select (BitVec.ofBool (BitVec.ofNat 32 k == 0#32)) _ _ = _
  rw [h]; rfl

/-- The remainder of words is that of the naturals they stand for. -/
theorem floorRem_word {a k : Nat} (ha : a < 2 ^ 31) (h0 : 0 < k) (hk : k < 2 ^ 31) :
    floorRem (BitVec.ofNat 32 a) (BitVec.ofNat 32 k) = BitVec.ofNat 32 (a % k) := by
  have hr : a % k < 2 ^ 31 := Nat.lt_trans (Nat.mod_lt a h0) hk
  unfold floorRem
  rw [divisor_word h0 hk, Routing.remsi_word .host ha h0 hk, not_slt_word hr, not_slt_word hk]
  show Scalar.select (0#1 &&& _) _ _ = _
  rw [BitVec.zero_and]; rfl

end Cert.Snake

end
-- ==== Proof.Tables.lean ====
/- The reference's index tables: entry `p` of each, as a number. -/
module

public import proofs.«01_k».proof.Proof.Spec
public import proofs.«01_k».proof.Proof.Words
public import proofs.«01_k».proof.Proof.Gen.ReferenceIdeal.Read

@[expose] public section

set_option maxRecDepth 16384

noncomputable section

namespace Cert.ReferenceIdeal.Snake

open Idealize.ShloMosaic Cert.Snake
open Cert.ReferenceIdeal Cert.ReferenceIdeal.Gen Cert.ReferenceIdeal.Read

variable {F : FTy → Type} [FloatOps F]

/-- The line that step `p` lies on, from the program's floor division. -/
theorem line_entry (p : Fin 147456) : val_main_v2 (F := F) (ix1 p) = BitVec.ofNat 32 (p.val / 384) :=
  (show val_main_v2 (F := F) (ix1 p) = floorDiv (BitVec.ofNat 32 p.val) (BitVec.ofNat 32 384) from rfl).trans
    (floorDiv_word (by omega) (by omega) (by omega))

/-- The step's count along its line, from the program's remainder. -/
theorem count_entry (p : Fin 147456) : val_main_v3 (F := F) (ix1 p) = BitVec.ofNat 32 (p.val % 384) :=
  (show val_main_v3 (F := F) (ix1 p) = floorRem (BitVec.ofNat 32 p.val) (BitVec.ofNat 32 384) from rfl).trans
    (floorRem_word (by omega) (by omega) (by omega))

/-- The line's parity, taken within its stripe of four. -/
theorem parity_entry (p : Fin 147456) : val_main_v5 (F := F) (ix1 p) = BitVec.ofNat 32 (p.val / 384 % 2) := by
  have h4 : val_main_v4 (F := F) (ix1 p) = BitVec.ofNat 32 (p.val / 384 % 4) :=
    (show val_main_v4 (F := F) (ix1 p) = floorRem (val_main_v2 (F := F) (ix1 p)) (BitVec.ofNat 32 4) from rfl).trans
      ((congrArg (floorRem · _) (line_entry p)).trans (floorRem_word (by omega) (by omega) (by omega)))
  refine (show val_main_v5 (F := F) (ix1 p) = floorRem (val_main_v4 (F := F) (ix1 p)) (BitVec.ofNat 32 2) from rfl).trans
    ((congrArg (floorRem · _) h4).trans ((floorRem_word (by omega) (by omega) (by omega)).trans ?_))
  congr 1; omega

/-- The place along the line: the count, mirrored on odd lines. -/
theorem place_entry (p : Fin 147456) : val_main_v10 (F := F) (ix1 p) = BitVec.ofNat 32 (place p).val := by
  rw [show val_main_v10 (F := F) (ix1 p) = Scalar.select (IntOp.cmpi .eq (val_main_v5 (F := F) (ix1 p)) 0#32)
      (val_main_v3 (F := F) (ix1 p)) (383#32 - val_main_v3 (F := F) (ix1 p)) from rfl, parity_entry, count_entry]
  unfold place serp
  by_cases h : (line p).val % 2 = 1
  · rw [if_pos h, show p.val / 384 % 2 = 1 from h]
    show 383#32 - BitVec.ofNat 32 (p.val % 384) = BitVec.ofNat 32 (383 - p.val % 384)
    apply BitVec.eq_of_toNat_eq
    simp only [BitVec.toNat_sub, BitVec.toNat_ofNat]
    omega
  · rw [if_neg h, show p.val / 384 % 2 = 0 from by have : (line p).val = p.val / 384 := rfl; omega]
    rfl

/-- A word built from a line and a place, `line * 384 + place`. -/
theorem word_mul_add (a b : Nat) : IntOp.addi (IntOp.muli (BitVec.ofNat 32 a) 384#32) (BitVec.ofNat 32 b)
    = BitVec.ofNat 32 (a * 384 + b) := by
  show BitVec.ofNat 32 a * BitVec.ofNat 32 384 + BitVec.ofNat 32 b = _
  rw [BitVec.ofNat_add, BitVec.ofNat_mul]

/-- The table of the scan along rows: the flat position of row `line`, column `place`. -/
theorem rows_entry (p : Fin 147456) :
    val_main_v13 (F := F) (ix1 p) = BitVec.ofNat 32 ((line p).val * 384 + (place p).val) := by
  rw [show val_main_v13 (F := F) (ix1 p) = IntOp.addi (IntOp.muli (val_main_v2 (F := F) (ix1 p)) 384#32)
      (val_main_v10 (F := F) (ix1 p)) from rfl, line_entry, place_entry, word_mul_add]
  rfl

/-- The table of the scan along columns: the flat position of row `place`, column `line`. -/
theorem cols_entry (p : Fin 147456) :
    val_main_v26 (F := F) (ix1 p) = BitVec.ofNat 32 ((place p).val * 384 + (line p).val) := by
  rw [show val_main_v26 (F := F) (ix1 p) = IntOp.addi (IntOp.muli (val_main_v10 (F := F) (ix1 p)) 384#32)
      (val_main_v2 (F := F) (ix1 p)) from rfl, line_entry, place_entry, word_mul_add]
  rfl

/-- A reversed table's entry `p` is the entry at the mirrored step. -/
theorem reversed_entry (t : S147456.Idx → BitVec 32) (p : Fin 147456) :
    Host.reverse [0] t (ix1 p) = t (ix1 ⟨147455 - p.val, by omega⟩) := by
  pointwise []
  refine congrArg (fun q => t (ix1 q)) (Fin.ext ?_)
  refine (congrArg Fin.val (if_pos (List.mem_singleton.mpr rfl))).trans ?_
  show 147456 - (p.val + 1) = 147455 - p.val
  omega

end Cert.ReferenceIdeal.Snake

end
-- ==== Proof.Take.lean ====
/- Taking positions from the flattened images by a table of indices, as the reference does four times. -/
module

public import proofs.«01_k».proof.Proof.Tables
public import Idealize.ShloMosaic.Lib.ReduceAll

@[expose] public section

set_option maxRecDepth 16384
set_option maxHeartbeats 400000

noncomputable section

namespace Cert.ReferenceIdeal.Snake

open Idealize.ShloMosaic Cert.Snake
open Cert.ReferenceIdeal Cert.ReferenceIdeal.Gen Cert.ReferenceIdeal.Read

variable {F : FTy → Type} [FloatOps F]

/-- The table as a column of start indices, a negative entry counted from the end. -/
def starts (t : IVec S147456 32) : IVec S147456x1 32 :=
  broadcastInDim S147456x1 ![0] bcast_S147456_S147456x1_0
    (select (cmpi .slt t (broadcastInDim S147456 ![] bcast_S_S147456 (constantI S_ 32 0#32)))
      (addi t (broadcastInDim S147456 ![] bcast_S_S147456 (constantI S_ 32 147456#32))) t)

/-- For each start index, whether it lies within the 147456 positions. -/
def inside (t : IVec S147456 32) : IVec S147456 1 :=
  Host.reduce IntOp.andi
    (andi (cmpi .sge (starts t) (broadcastInDim S147456x1 ![] bcast_S_S147456x1 (constantI S_ 32 0#32)))
      (cmpi .sle (starts t)
        (broadcastInDim S147456x1 ![0, 1] bcast_S1x1_S147456x1_0_1
          (broadcastInDim S1x1 ![1] bcast_S1_S1x1_1 (constantI S1 32 147455#32)))))
    (constantI S_ 1 1#1) reducesTo_S147456x1_S147456_d1 h_S_

/-- How the reference's gather reads its operand: one position of the middle axis, the two others whole. -/
abbrev middle : GatherDims S2x147456x96 S147456x1 S2x147456x96 :=
  gather_S2x147456x96_S147456x1_S2x147456x96_02_1_n_n_1_1_2196

/-- The positions a table names, taken from `x`; a position outside is the fill value. -/
def take (x : FVec F S2x147456x96 .f32) (t : IVec S147456 32) : FVec F S2x147456x96 .f32 :=
  select (broadcastInDim S2x147456x96 ![1] bcast_S147456_S2x147456x96_1 (inside t))
    (Host.gather middle x (starts t))
    (broadcastInDim S2x147456x96 ![] bcast_S_S2x147456x96 (constant S_ .f32 0x7FC00000#32))

/-- A gather along the middle axis: the operand at the start index, read signed and clamped to the axis. -/
theorem gather_middle (x : FVec F S2x147456x96 .f32) (s : IVec S147456x1 32) (n : Fin 2) (p : Fin 147456) (ch : Fin 96) :
    Host.gather middle x s (ix3 n p ch) = x (ix3 n ⟨min (s (ix2 p 0)).toInt.toNat 147455, by omega⟩ ch) := by
  unfold Host.gather
  refine congrArg x (funext fun a => Fin.ext ?_)
  show middle.start (ix3 n p ch) s a + middle.batchCoord (ix3 n p ch) a + middle.offCoord (ix3 n p ch) a = _
  rw [middle.batchCoord_eq_zero _ _ List.not_mem_nil, Nat.add_zero]
  match a with
  | ⟨0, _⟩ =>
    have h : middle.start (ix3 n p ch) s (0 : Fin 3) = 0 := dif_neg (by decide)
    have h' : middle.offCoord (ix3 n p ch) (0 : Fin 3) = n.val := (dif_pos (by decide)).trans rfl
    exact (congrArg₂ (· + ·) h h').trans (Nat.zero_add _)
  | ⟨1, _⟩ =>
    have hs : middle.siIdx (ix3 n p ch) (0 : Fin 1) = ix2 p 0 := by
      funext b
      refine Fin.ext ?_
      match b with
      | ⟨0, _⟩ => rfl
      | ⟨1, _⟩ => rfl
    have h : middle.start (ix3 n p ch) s (1 : Fin 3) = min (s (ix2 p 0)).toInt.toNat 147455 :=
      (dif_pos (by decide)).trans (congrArg (fun q => min (s q).toInt.toNat 147455) hs)
    have h' : middle.offCoord (ix3 n p ch) (1 : Fin 3) = 0 := dif_neg (by decide)
    exact (congrArg₂ (· + ·) h h').trans (Nat.add_zero _)
  | ⟨2, _⟩ =>
    have h : middle.start (ix3 n p ch) s (2 : Fin 3) = 0 := dif_neg (by decide)
    have h' : middle.offCoord (ix3 n p ch) (2 : Fin 3) = ch.val := (dif_pos (by decide)).trans rfl
    exact (congrArg₂ (· + ·) h h').trans (Nat.zero_add _)

/-- The start index of a table entry that is the word of a position is that word. -/
theorem starts_entry (t : IVec S147456 32) (k : Fin 147456 → Fin 147456) (ht : ∀ p, t (ix1 p) = BitVec.ofNat 32 (k p).val)
    (p : Fin 147456) (z : Fin 1) : starts t (ix2 p z) = BitVec.ofNat 32 (k p).val := by
  have h : starts t (ix2 p z) = Scalar.select (IntOp.cmpi .slt (t (ix1 p)) 0#32) (IntOp.addi (t (ix1 p)) 147456#32) (t (ix1 p)) := by
    pointwise [starts]
  rw [h, ht, not_slt_word (by omega)]
  rfl

/-- The word of a natural below `2 ^ 31`, read signed, is the natural. -/
theorem toInt_word {a : Nat} (ha : a < 2 ^ 31) : (BitVec.ofNat 32 a).toInt = a := by
  rw [BitVec.toInt_eq_toNat_of_msb (msb_word ha), BitVec.toNat_ofNat]
  omega

/-- A table of positions has every start index inside. -/
theorem inside_entry (t : IVec S147456 32) (k : Fin 147456 → Fin 147456) (ht : ∀ p, t (ix1 p) = BitVec.ofNat 32 (k p).val)
    (i : S147456.Idx) : inside t i = 1#1 := by
  refine Host.reduce_andi_one _ _ _ _ _ rfl fun j => ?_
  obtain ⟨p, z, rfl⟩ : ∃ (p : Fin 147456) (z : Fin 1), j = ix2 p z := ⟨j 0, j 1, eq_ix2 j⟩
  show IntOp.andi (IntOp.cmpi .sge (starts t (ix2 p z)) 0#32) (IntOp.cmpi .sle (starts t (ix2 p z)) 147455#32) = 1#1
  rw [starts_entry t k ht]
  have hk := (k p).isLt
  have h0 : (0#32).sle (BitVec.ofNat 32 (k p).val) = true := by
    rw [BitVec.sle_iff_toInt_le, toInt_word (a := (k p).val) (by omega)]
    show (0 : Int) ≤ _
    omega
  have h1 : (BitVec.ofNat 32 (k p).val).sle 147455#32 = true := by
    rw [BitVec.sle_iff_toInt_le, toInt_word (a := (k p).val) (by omega)]
    show _ ≤ (147455 : Int)
    omega
  show BitVec.ofBool ((0#32).sle _) &&& BitVec.ofBool (BitVec.sle _ 147455#32) = 1#1
  rw [h0, h1]
  rfl

/-- TAKING BY A TABLE OF POSITIONS reads, at position `p`, the position the table names there. -/
theorem take_entry (x : FVec F S2x147456x96 .f32) (t : IVec S147456 32) (k : Fin 147456 → Fin 147456)
    (ht : ∀ p, t (ix1 p) = BitVec.ofNat 32 (k p).val) (n : Fin 2) (p : Fin 147456) (ch : Fin 96) :
    take x t (ix3 n p ch) = x (ix3 n (k p) ch) := by
  have hm : broadcastInDim S2x147456x96 ![1] bcast_S147456_S2x147456x96_1 (inside t) (ix3 n p ch) = 1#1 := by
    pointwise []
    exact inside_entry t k ht _
  unfold take
  rw [ValueIdx.select_apply, hm, ValueIdx.select_one, gather_middle]
  have hk := (k p).isLt
  refine congrArg (fun q => x (ix3 n q ch)) (Fin.ext ?_)
  show min (starts t (ix2 p 0)).toInt.toNat 147455 = (k p).val
  rw [starts_entry t k ht, toInt_word (by omega), Int.toNat_natCast]
  omega

end Cert.ReferenceIdeal.Snake

end
-- ==== Proof.Reference.lean ====
/- What the reference computes: the scan of its argument. -/
module

public import proofs.«01_k».proof.Proof.Take

@[expose] public section

set_option maxRecDepth 16384
set_option maxHeartbeats 400000

noncomputable section

namespace Cert.ReferenceIdeal.Snake

open Idealize.ShloMosaic Idealize.ShloMosaic.TcCoe Idealize.SL.Sem Cert.Snake
open Cert.ReferenceIdeal Cert.ReferenceIdeal.Gen Cert.ReferenceIdeal.Read

variable {F : FTy → Type} [FloatOps F]

/-- The flat position of row `r`, column `w`. -/
def flat (r w : Fin 384) : Fin 147456 := ⟨r.val * 384 + w.val, by omega⟩

/-- The flattened images at the flat position of row `r`, column `w`. -/
theorem flattened (x : FVec F S2x384x384x96 .f32) (n : Fin 2) (r w : Fin 384) (ch : Fin 96) :
    val_main_v0 x (ix3 n (flat r w) ch) = x (ix4 n r w ch) := by
  unfold val_main_v0
  refine shapeCast_apply x shapeCasts_S2x384x384x96_S2x147456x96 _ _ ?_
  rw [Shape.rowMajor_val_four, Shape.rowMajor_val_three]
  show ((n.val * 384 + r.val) * 384 + w.val) * 96 + ch.val = (n.val * 147456 + (r.val * 384 + w.val)) * 96 + ch.val
  omega

/-- The step from the other end. -/
def back (p : Fin 147456) : Fin 147456 := ⟨147455 - p.val, by omega⟩

/-- Group pair 0, along the rows forward. -/
theorem part0 (x : FVec F S2x384x384x96 .f32) (n : Fin 2) (p : Fin 147456) (ch : Fin 96) :
    val_main_v29 x (ix3 n p ch) = x (ix4 n (line p) (place p) ch) :=
  (take_entry (val_main_v0 x) (val_main_v13 (F := F)) (fun q => flat (line q) (place q)) rows_entry n p ch).trans
    (flattened x n _ _ ch)

/-- Group pair 1, along the rows backward. -/
theorem part1 (x : FVec F S2x384x384x96 .f32) (n : Fin 2) (p : Fin 147456) (ch : Fin 96) :
    val_main_v30 x (ix3 n p ch) = x (ix4 n (line (back p)) (place (back p)) ch) :=
  (take_entry (val_main_v0 x) (val_main_v27 (F := F)) (fun q => flat (line (back q)) (place (back q)))
    (fun q => (reversed_entry _ q).trans (rows_entry (back q))) n p ch).trans (flattened x n _ _ ch)

/-- Group pair 2, along the columns forward. -/
theorem part2 (x : FVec F S2x384x384x96 .f32) (n : Fin 2) (p : Fin 147456) (ch : Fin 96) :
    val_main_v31 x (ix3 n p ch) = x (ix4 n (place p) (line p) ch) :=
  (take_entry (val_main_v0 x) (val_main_v26 (F := F)) (fun q => flat (place q) (line q)) cols_entry n p ch).trans
    (flattened x n _ _ ch)

/-- Group pair 3, along the columns backward. -/
theorem part3 (x : FVec F S2x384x384x96 .f32) (n : Fin 2) (p : Fin 147456) (ch : Fin 96) :
    val_main_v32 x (ix3 n p ch) = x (ix4 n (place (back p)) (line (back p)) ch) :=
  (take_entry (val_main_v0 x) (val_main_v28 (F := F)) (fun q => flat (place (back q)) (line (back q)))
    (fun q => (reversed_entry _ q).trans (cols_entry (back q))) n p ch).trans (flattened x n _ _ ch)

/-- THE REFERENCE'S RESULT is the scan of its argument. -/
theorem result (x : FVec F S2x384x384x96 .f32) (b : Fin 8) (p : Fin 147456) (ch : Fin 96) :
    val_main_v33 x (ix3 b p ch) = scan x b p ch := by
  unfold val_main_v33
  pointwise []
  simp only [part0, part1, part2, part3]
  fin_cases b <;> rfl

/-- THE REFERENCE'S RUN: the result array ends at the scan of the argument, and the argument is as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = (fun i => scan (m ((c.tc : Thread nD τ).loc main_arg0)) (i 0) (i 1) (i 2) : S8x147456x96.Idx → F .f32)
      ∧ r.2.mem ((c.tc : Thread nD τ).loc main_arg0) = m ((c.tc : Thread nD τ).loc main_arg0) :=
  (θ_run defs _ _).mono (fun _ h c => ⟨(h c).1.trans ((val_main_v33_eq _).trans (funext fun i => by
      rw [eq_ix3 i]
      exact result _ _ _ _)), (h c).2⟩) (Cert.ReferenceIdeal.Value.run m ρ)

end Cert.ReferenceIdeal.Snake

end
-- ==== Proof.lean ====
module

public import proofs.«01_k».proof.Proof.Run
public import proofs.«01_k».proof.Proof.Reference
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference terminates from every memory, its argument as launched and every counter at zero. -/
theorem reference_frame : Cert.quiescent_ReferenceIdeal (hReferenceIdeal := Cert.ReferenceIdeal.Gen.facts) := by
  intro m ρ _
  refine (θ_run _ _ _).mono (fun r h => ⟨fun c => (h c).2, sem_eq_zero_of_no_sems (by decide) r.2⟩)
    (Cert.ReferenceIdeal.Snake.run m ρ)

/-- The kernel and the reference leave the same result: each the scan of the one argument. -/
theorem agree : Cert.algebraic_KernelIdeal_ReferenceIdeal
    (hKernelIdeal := Cert.KernelIdeal.Gen.facts) (hReferenceIdeal := Cert.ReferenceIdeal.Gen.facts) := by
  intro m g m' g' _ hm
  refine ⟨fun c => Cert.KernelIdeal.Snake.scanned (Cert.KernelIdeal.Snake.arg m c),
    Cert.KernelIdeal.Snake.run m g, ?_⟩
  refine (θ_run _ _ _).mono (fun _ h c => ⟨(h c).1.trans ?_, (h c).2⟩) (Cert.ReferenceIdeal.Snake.run m' g')
  rw [hm c]

/-- The certificate: the three programs' frames, the idealized kernel as printed, and the equation of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, agree⟩

end Cert.Proof

end
